-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x64x1024 : Shape := ⟨3, ![512, 64, 1024]⟩
abbrev S64 : Shape := ⟨1, ![64]⟩
abbrev S3072x1024 : Shape := ⟨2, ![3072, 1024]⟩
abbrev S3072 : Shape := ⟨1, ![3072]⟩
abbrev S1x1x1024 : Shape := ⟨3, ![1, 1, 1024]⟩
abbrev S64x1 : Shape := ⟨2, ![64, 1]⟩
abbrev S1024x3072 : Shape := ⟨2, ![1024, 3072]⟩
abbrev S1x3072 : Shape := ⟨2, ![1, 3072]⟩
abbrev S1x1024 : Shape := ⟨2, ![1, 1024]⟩
abbrev S64x1024 : Shape := ⟨2, ![64, 1024]⟩
abbrev S16x64x1024 : Shape := ⟨3, ![16, 64, 1024]⟩
abbrev S1024x1024 : Shape := ⟨2, ![1024, 1024]⟩
abbrev S64x3072 : Shape := ⟨2, ![64, 3072]⟩
abbrev S128x1024 : Shape := ⟨2, ![128, 1024]⟩
abbrev S128x3072 : Shape := ⟨2, ![128, 3072]⟩

abbrev nBuf : Space → Nat
  | .hbm => 16
  | .vmem => 10
  | .smem => 0
  | _ => 0

abbrev bufTy : (tb : Table) → Fin (tcTables nBuf tb) → BufTy
  | .hbm, ⟨0, _⟩ => ⟨S512x64x1024, .f32⟩
  | .hbm, ⟨1, _⟩ => ⟨S64, .i32⟩
  | .hbm, ⟨2, _⟩ => ⟨S3072x1024, .f32⟩
  | .hbm, ⟨3, _⟩ => ⟨S3072x1024, .f32⟩
  | .hbm, ⟨4, _⟩ => ⟨S3072, .f32⟩
  | .hbm, ⟨5, _⟩ => ⟨S3072, .f32⟩
  | .hbm, ⟨6, _⟩ => ⟨S1x1x1024, .f32⟩
  | .hbm, ⟨7, _⟩ => ⟨S64x1, .i32⟩
  | .hbm, ⟨8, _⟩ => ⟨S1024x3072, .f32⟩
  | .hbm, ⟨9, _⟩ => ⟨S1024x3072, .bf16⟩
  | .hbm, ⟨10, _⟩ => ⟨S1024x3072, .f32⟩
  | .hbm, ⟨11, _⟩ => ⟨S1024x3072, .bf16⟩
  | .hbm, ⟨12, _⟩ => ⟨S1x3072, .f32⟩
  | .hbm, ⟨13, _⟩ => ⟨S1x3072, .f32⟩
  | .hbm, ⟨14, _⟩ => ⟨S1x1024, .f32⟩
  | .hbm, ⟨15, _⟩ => ⟨S64x1024, .f32⟩
  | .local _ .vmem, ⟨0, _⟩ => ⟨S64x1, .i32⟩
  | .local _ .vmem, ⟨1, _⟩ => ⟨S1x1024, .f32⟩
  | .local _ .vmem, ⟨2, _⟩ => ⟨S16x64x1024, .f32⟩
  | .local _ .vmem, ⟨3, _⟩ => ⟨S16x64x1024, .f32⟩
  | .local _ .vmem, ⟨4, _⟩ => ⟨S1024x3072, .bf16⟩
  | .local _ .vmem, ⟨5, _⟩ => ⟨S1024x3072, .bf16⟩
  | .local _ .vmem, ⟨6, _⟩ => ⟨S1x3072, .f32⟩
  | .local _ .vmem, ⟨7, _⟩ => ⟨S1x3072, .f32⟩
  | .local _ .vmem, ⟨8, _⟩ => ⟨S64x1024, .f32⟩
  | .local _ .vmem, ⟨9, _⟩ => ⟨S64x1024, .f32⟩
  | _, _ => ⟨S512x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v565 : BitVec 1 := Scalar.cmpi .eq arg0 c31_i32
  let v566 : BitVec 32 := Scalar.extui v565
  let c0_i32_95 : BitVec 32 := 0#32
  let v567 : BitVec 1 := Scalar.cmpi .ne v566 c0_i32_95
  v567

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S512x64x1024 : Shape := ⟨3, ![512, 64, 1024]⟩
abbrev S64 : Shape := ⟨1, ![64]⟩
abbrev S3072x1024 : Shape := ⟨2, ![3072, 1024]⟩
abbrev S3072 : Shape := ⟨1, ![3072]⟩
abbrev S1x1x1024 : Shape := ⟨3, ![1, 1, 1024]⟩
abbrev S1x1024 : Shape := ⟨2, ![1, 1024]⟩
abbrev S64x1024 : Shape := ⟨2, ![64, 1024]⟩
abbrev S512 : Shape := ⟨1, ![512]⟩
abbrev S_ : Shape := ⟨0, ![]⟩
abbrev S1x64x1024 : Shape := ⟨3, ![1, 64, 1024]⟩
abbrev S1 : Shape := ⟨1, ![1]⟩
abbrev S1024x3072 : Shape := ⟨2, ![1024, 3072]⟩
abbrev S64x3072 : Shape := ⟨2, ![64, 3072]⟩
abbrev S1x3072 : Shape := ⟨2, ![1, 3072]⟩
abbrev S64x1 : Shape := ⟨2, ![64, 1]⟩

abbrev nBuf : Space → Nat
  | .hbm => 87
  | .vmem => 0
  | .smem => 0
  | _ => 0

abbrev bufTy : (tb : Table) → Fin (tcTables nBuf tb) → BufTy
  | .hbm, ⟨0, _⟩ => ⟨S512x64x1024, .f32⟩
  | .hbm, ⟨1, _⟩ => ⟨S64, .i32⟩
  | .hbm, ⟨2, _⟩ => ⟨S3072x1024, .f32⟩
  | .hbm, ⟨3, _⟩ => ⟨S3072x1024, .f32⟩
  | .hbm, ⟨4, _⟩ => ⟨S3072, .f32⟩
  | .hbm, ⟨5, _⟩ => ⟨S3072, .f32⟩
  | .hbm, ⟨6, _⟩ => ⟨S1x1x1024, .f32⟩
  | .hbm, ⟨7, _⟩ => ⟨S1x1024, .f32⟩
  | .hbm, ⟨8, _⟩ => ⟨S64x1024, .f32⟩
  | .hbm, ⟨9, _⟩ => ⟨S512, .i32⟩
  | .hbm, ⟨10, _⟩ => ⟨S_, .i32⟩
  | .hbm, ⟨11, _⟩ => ⟨S512x64x1024, .f32⟩
  | .hbm, ⟨12, _⟩ => ⟨S512, .i32⟩
  | .hbm, ⟨13, _⟩ => ⟨S3072x1024, .f32⟩
  | .hbm, ⟨14, _⟩ => ⟨S3072, .f32⟩
  | .hbm, ⟨15, _⟩ => ⟨S3072x1024, .f32⟩
  | .hbm, ⟨16, _⟩ => ⟨S3072, .f32⟩
  | .hbm, ⟨17, _⟩ => ⟨S64, .i32⟩
  | .hbm, ⟨18, _⟩ => ⟨S_, .i32⟩
  | .hbm, ⟨19, _⟩ => ⟨S64x1024, .f32⟩
  | .hbm, ⟨20, _⟩ => ⟨S_, .i32⟩
  | .hbm, ⟨21, _⟩ => ⟨S_, .i1⟩
  | .hbm, ⟨22, _⟩ => ⟨S_, .i32⟩
  | .hbm, ⟨23, _⟩ => ⟨S_, .i32⟩
  | .hbm, ⟨24, _⟩ => ⟨S1x64x1024, .f32⟩
  | .hbm, ⟨25, _⟩ => ⟨S64x1024, .f32⟩
  | .hbm, ⟨26, _⟩ => ⟨S1, .i32⟩
  | .hbm, ⟨27, _⟩ => ⟨S_, .i32⟩
  | .hbm, ⟨28, _⟩ => ⟨S1024x3072, .f32⟩
  | .hbm, ⟨29, _⟩ => ⟨S64x3072, .f32⟩
  | .hbm, ⟨30, _⟩ => ⟨S1x3072, .f32⟩
  | .hbm, ⟨31, _⟩ => ⟨S64x3072, .f32⟩
  | .hbm, ⟨32, _⟩ => ⟨S64x3072, .f32⟩
  | .hbm, ⟨33, _⟩ => ⟨S1024x3072, .f32⟩
  | .hbm, ⟨34, _⟩ => ⟨S64x3072, .f32⟩
  | .hbm, ⟨35, _⟩ => ⟨S1x3072, .f32⟩
  | .hbm, ⟨36, _⟩ => ⟨S64x3072, .f32⟩
  | .hbm, ⟨37, _⟩ => ⟨S64x3072, .f32⟩
  | .hbm, ⟨38, _⟩ => ⟨S64x1024, .f32⟩
  | .hbm, ⟨39, _⟩ => ⟨S64x1024, .f32⟩
  | .hbm, ⟨40, _⟩ => ⟨S64x1024, .f32⟩
  | .hbm, ⟨41, _⟩ => ⟨S64x1024, .f32⟩
  | .hbm, ⟨42, _⟩ => ⟨S64x1024, .f32⟩
  | .hbm, ⟨43, _⟩ => ⟨S64x1024, .f32⟩
  | .hbm, ⟨44, _⟩ => ⟨S64x1024, .f32⟩
  | .hbm, ⟨45, _⟩ => ⟨S64x1024, .f32⟩
  | .hbm, ⟨46, _⟩ => ⟨S64x1024, .f32⟩
  | .hbm, ⟨47, _⟩ => ⟨S_, .f32⟩
  | .hbm, ⟨48, _⟩ => ⟨S64x1024, .f32⟩
  | .hbm, ⟨49, _⟩ => ⟨S64x1024, .f32⟩
  | .hbm, ⟨50, _⟩ => ⟨S_, .f32⟩
  | .hbm, ⟨51, _⟩ => ⟨S64x1024, .f32⟩
  | .hbm, ⟨52, _⟩ => ⟨S64x1024, .f32⟩
  | .hbm, ⟨53, _⟩ => ⟨S64x1024, .f32⟩
  | .hbm, ⟨54, _⟩ => ⟨S64x1024, .f32⟩
  | .hbm, ⟨55, _⟩ => ⟨S64x1024, .f32⟩
  | .hbm, ⟨56, _⟩ => ⟨S_, .f32⟩
  | .hbm, ⟨57, _⟩ => ⟨S64x1024, .f32⟩
  | .hbm, ⟨58, _⟩ => ⟨S64x1024, .f32⟩
  | .hbm, ⟨59, _⟩ => ⟨S_, .f32⟩
  | .hbm, ⟨60, _⟩ => ⟨S64x1024, .f32⟩
  | .hbm, ⟨61, _⟩ => ⟨S64x1024, .f32⟩
  | .hbm, ⟨62, _⟩ => ⟨S64x1024, .f32⟩
  | .hbm, ⟨63, _⟩ => ⟨S64x1024, .f32⟩
  | .hbm, ⟨64, _⟩ => ⟨S64x1024, .f32⟩
  | .hbm, ⟨65, _⟩ => ⟨S_, .f32⟩
  | .hbm, ⟨66, _⟩ => ⟨S64x1024, .f32⟩
  | .hbm, ⟨67, _⟩ => ⟨S64x1024, .f32⟩
  | .hbm, ⟨68, _⟩ => ⟨S64x1024, .f32⟩
  | .hbm, ⟨69, _⟩ => ⟨S64x1024, .f32⟩
  | .hbm, ⟨70, _⟩ => ⟨S64x1024, .f32⟩
  | .hbm, ⟨71, _⟩ => ⟨S64, .i32⟩
  | .hbm, ⟨72, _⟩ => ⟨S64, .i1⟩
  | .hbm, ⟨73, _⟩ => ⟨S64x1, .i1⟩
  | .hbm, ⟨74, _⟩ => ⟨S64x1024, .i1⟩
  | .hbm, ⟨75, _⟩ => ⟨S64x1024, .f32⟩
  | .hbm, ⟨76, _⟩ => ⟨S_, .i32⟩
  | .hbm, ⟨77, _⟩ => ⟨S_, .i32⟩
  | .hbm, ⟨78, _⟩ => ⟨S_, .i32⟩
  | .hbm, ⟨79, _⟩ => ⟨S64, .i32⟩
  | .hbm, ⟨80, _⟩ => ⟨S64, .i1⟩
  | .hbm, ⟨81, _⟩ => ⟨S64x1, .i1⟩
  | .hbm, ⟨82, _⟩ => ⟨S_, .f32⟩
  | .hbm, ⟨83, _⟩ => ⟨S_, .f32⟩
  | .hbm, ⟨84, _⟩ => ⟨S64x1024, .i1⟩
  | .hbm, ⟨85, _⟩ => ⟨S64x1024, .f32⟩
  | .hbm, ⟨86, _⟩ => ⟨S64x1024, .f32⟩
  | _, _ => ⟨S512x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev main_v3_4 : Ref sig .tc := ⟨.hbm, 15, rfl⟩
abbrev main_v3_5 : Ref sig .tc := ⟨.hbm, 16, rfl⟩
abbrev main_v3_6 : Ref sig .tc := ⟨.hbm, 17, rfl⟩
abbrev main_v3_7 : Ref sig .tc := ⟨.hbm, 18, rfl⟩
abbrev main_v3_8 : Ref sig .tc := ⟨.hbm, 19, rfl⟩
abbrev main_while0c_c_9 : Ref sig .tc := ⟨.hbm, 20, rfl⟩
abbrev main_while0c_v8 : Ref sig .tc := ⟨.hbm, 21, rfl⟩
abbrev main_while0b_call0_c : Ref sig .tc := ⟨.hbm, 22, rfl⟩
abbrev main_while0b_call0_c_0 : Ref sig .tc := ⟨.hbm, 23, rfl⟩
abbrev main_while0b_call0_v0 : Ref sig .tc := ⟨.hbm, 24, rfl⟩
abbrev main_while0b_v8 : Ref sig .tc := ⟨.hbm, 25, rfl⟩
abbrev main_while0b_call1_v0 : Ref sig .tc := ⟨.hbm, 26, rfl⟩
abbrev main_while0b_v9 : Ref sig .tc := ⟨.hbm, 27, rfl⟩
abbrev main_while0b_v10 : Ref sig .tc := ⟨.hbm, 28, rfl⟩
abbrev main_while0b_v11 : Ref sig .tc := ⟨.hbm, 29, rfl⟩
abbrev main_while0b_v12 : Ref sig .tc := ⟨.hbm, 30, rfl⟩
abbrev main_while0b_v13 : Ref sig .tc := ⟨.hbm, 31, rfl⟩
abbrev main_while0b_v14 : Ref sig .tc := ⟨.hbm, 32, rfl⟩
abbrev main_while0b_v15 : Ref sig .tc := ⟨.hbm, 33, rfl⟩
abbrev main_while0b_v16 : Ref sig .tc := ⟨.hbm, 34, rfl⟩
abbrev main_while0b_v17 : Ref sig .tc := ⟨.hbm, 35, rfl⟩
abbrev main_while0b_v18 : Ref sig .tc := ⟨.hbm, 36, rfl⟩
abbrev main_while0b_v19 : Ref sig .tc := ⟨.hbm, 37, rfl⟩
abbrev main_while0b_v20 : Ref sig .tc := ⟨.hbm, 38, rfl⟩
abbrev main_while0b_v21 : Ref sig .tc := ⟨.hbm, 39, rfl⟩
abbrev main_while0b_v22 : Ref sig .tc := ⟨.hbm, 40, rfl⟩
abbrev main_while0b_v23 : Ref sig .tc := ⟨.hbm, 41, rfl⟩
abbrev main_while0b_v24 : Ref sig .tc := ⟨.hbm, 42, rfl⟩
abbrev main_while0b_v25 : Ref sig .tc := ⟨.hbm, 43, rfl⟩
abbrev main_while0b_v26 : Ref sig .tc := ⟨.hbm, 44, rfl⟩
abbrev main_while0b_v27 : Ref sig .tc := ⟨.hbm, 45, rfl⟩
abbrev main_while0b_v28 : Ref sig .tc := ⟨.hbm, 46, rfl⟩
abbrev main_while0b_cst_9 : Ref sig .tc := ⟨.hbm, 47, rfl⟩
abbrev main_while0b_v29 : Ref sig .tc := ⟨.hbm, 48, rfl⟩
abbrev main_while0b_v30 : Ref sig .tc := ⟨.hbm, 49, rfl⟩
abbrev main_while0b_cst_10 : Ref sig .tc := ⟨.hbm, 50, rfl⟩
abbrev main_while0b_v31 : Ref sig .tc := ⟨.hbm, 51, rfl⟩
abbrev main_while0b_v32 : Ref sig .tc := ⟨.hbm, 52, rfl⟩
abbrev main_while0b_v33 : Ref sig .tc := ⟨.hbm, 53, rfl⟩
abbrev main_while0b_v34 : Ref sig .tc := ⟨.hbm, 54, rfl⟩
abbrev main_while0b_v35 : Ref sig .tc := ⟨.hbm, 55, rfl⟩
abbrev main_while0b_cst_11 : Ref sig .tc := ⟨.hbm, 56, rfl⟩
abbrev main_while0b_v36 : Ref sig .tc := ⟨.hbm, 57, rfl⟩
abbrev main_while0b_v37 : Ref sig .tc := ⟨.hbm, 58, rfl⟩
abbrev main_while0b_cst_12 : Ref sig .tc := ⟨.hbm, 59, rfl⟩
abbrev main_while0b_v38 : Ref sig .tc := ⟨.hbm, 60, rfl⟩
abbrev main_while0b_v39 : Ref sig .tc := ⟨.hbm, 61, rfl⟩
abbrev main_while0b_v40 : Ref sig .tc := ⟨.hbm, 62, rfl⟩
abbrev main_while0b_v41 : Ref sig .tc := ⟨.hbm, 63, rfl⟩
abbrev main_while0b_v42 : Ref sig .tc := ⟨.hbm, 64, rfl⟩
abbrev main_while0b_cst_13 : Ref sig .tc := ⟨.hbm, 65, rfl⟩
abbrev main_while0b_v43 : Ref sig .tc := ⟨.hbm, 66, rfl⟩
abbrev main_while0b_v44 : Ref sig .tc := ⟨.hbm, 67, rfl⟩
abbrev main_while0b_v45 : Ref sig .tc := ⟨.hbm, 68, rfl⟩
abbrev main_while0b_v46 : Ref sig .tc := ⟨.hbm, 69, rfl⟩
abbrev main_while0b_v47 : Ref sig .tc := ⟨.hbm, 70, rfl⟩
abbrev main_while0b_v48 : Ref sig .tc := ⟨.hbm, 71, rfl⟩
abbrev main_while0b_v49 : Ref sig .tc := ⟨.hbm, 72, rfl⟩
abbrev main_while0b_v50 : Ref sig .tc := ⟨.hbm, 73, rfl⟩
abbrev main_while0b_call2_v0 : Ref sig .tc := ⟨.hbm, 74, rfl⟩
abbrev main_while0b_v51 : Ref sig .tc := ⟨.hbm, 75, rfl⟩
abbrev main_while0b_c_14 : Ref sig .tc := ⟨.hbm, 76, rfl⟩
abbrev main_while0b_v52 : Ref sig .tc := ⟨.hbm, 77, rfl⟩
abbrev main_c_0 : Ref sig .tc := ⟨.hbm, 78, rfl⟩
abbrev main_v4 : Ref sig .tc := ⟨.hbm, 79, rfl⟩
abbrev main_v5 : Ref sig .tc := ⟨.hbm, 80, rfl⟩
abbrev main_v6 : Ref sig .tc := ⟨.hbm, 81, rfl⟩
abbrev main_cst : Ref sig .tc := ⟨.hbm, 82, rfl⟩
abbrev main_call3_v0 : Ref sig .tc := ⟨.hbm, 83, rfl⟩
abbrev main_call3_v1 : Ref sig .tc := ⟨.hbm, 84, rfl⟩
abbrev main_call3_v2 : Ref sig .tc := ⟨.hbm, 85, rfl⟩
abbrev main_v7 : Ref sig .tc := ⟨.hbm, 86, rfl⟩

abbrev nD : Nat := 1
abbrev τ : Topo := Topo.v7x

variable {F : FTy → Type} [FloatOps F]

abbrev main_while0_count : Scf.Loop 32 := ⟨0#32, 512#32, 1#32⟩
-- ==== Proof.Spec.lean ====
/-
  The recurrence as plain mathematics over the extended reals: what both programs compute.

  `state I k` is the hidden state after `k` steps. A step multiplies the inputs at time `k` and the hidden state by their
  weights, adds the biases, forms the two gates and the candidate, and mixes candidate and old state; a row keeps its
  old state once the time reaches its length. `output I` is the state after 512 steps with the rows of length zero or
  less made zero.
-/
module

public import Idealize.ShloMosaic.Lib.Pointwise

@[expose] public section

noncomputable section

namespace Cert.Gru

open Idealize.ShloMosaic

/-- The arguments, by their coordinates. -/
structure Inputs where
  /-- the sequence: time, row, feature -/
  x : Fin 512 → Fin 64 → Fin 1024 → EReal
  /-- each row's length -/
  len : Fin 64 → BitVec 32
  /-- the input's weights -/
  wi : Fin 3072 → Fin 1024 → EReal
  /-- the hidden state's weights -/
  wh : Fin 3072 → Fin 1024 → EReal
  /-- the input's bias -/
  bi : Fin 3072 → EReal
  /-- the hidden state's bias -/
  bh : Fin 3072 → EReal
  /-- the first state, one for all rows -/
  h0 : Fin 1024 → EReal

/-- Unit `l`'s place among the reset gates. -/
def resetAt (l : Fin 1024) : Fin 3072 := ⟨l.val, by omega⟩
/-- Unit `l`'s place among the update gates. -/
def updateAt (l : Fin 1024) : Fin 3072 := ⟨1024 + l.val, by omega⟩
/-- Unit `l`'s place among the candidates. -/
def candAt (l : Fin 1024) : Fin 3072 := ⟨2048 + l.val, by omega⟩

/-- A vector's product with row `j` of a weight, plus the bias. -/
def affine (w : Fin 3072 → Fin 1024 → EReal) (b : Fin 3072 → EReal) (v : Fin 1024 → EReal) (j : Fin 3072) : EReal :=
  (∑ q : Fin 1024, v q * w j q) + b j

/-- The gate's mixture: `g` is the input's side and `q` the hidden state's side of one row, `a` the unit's old state. -/
def mixture (g q : Fin 3072 → EReal) (a : EReal) (l : Fin 1024) : EReal :=
  (1 - Ideal.logistic (g (updateAt l) + q (updateAt l)))
      * Ideal.tanh (g (candAt l) + Ideal.logistic (g (resetAt l) + q (resetAt l)) * q (candAt l))
    + Ideal.logistic (g (updateAt l) + q (updateAt l)) * a

/-- The step at time `k` on the state `h`: row `r`, unit `l`. -/
def next (I : Inputs) (k : ℕ) (h : Fin 64 → Fin 1024 → EReal) (r : Fin 64) (l : Fin 1024) : EReal :=
  Scalar.select (Scalar.cmpi .slt (BitVec.ofNat 32 k) (I.len r))
    (mixture (affine I.wi I.bi (I.x (Fin.ofNat 512 k) r)) (affine I.wh I.bh (h r)) (h r l) l) (h r l)

/-- The hidden state after `k` steps. -/
def state (I : Inputs) : ℕ → Fin 64 → Fin 1024 → EReal
  | 0 => fun _ l => I.h0 l
  | k + 1 => next I k (state I k)

/-- The result: row `r`, unit `l`. -/
def output (I : Inputs) (r : Fin 64) (l : Fin 1024) : EReal :=
  Scalar.select (Scalar.cmpi .sgt (I.len r) 0#32) (state I 512 r l) 0

end Cert.Gru

end
-- ==== Proof.Cell.lean ====
/-
  One step of the recurrence as the kernel's text computes it, and one grid point's sixteen steps.

  The kernel keeps the hidden state in a [64, 1024] scratch. A grid point multiplies its sixteen rows of the sequence by
  the input weights at once, then runs sixteen steps, step `n` reading rows `64 n` to `64 n + 63` of that product. The
  printed text cuts these steps at other places than the recurrence does (a value of one part is finished in the next);
  the theorems here say, part by part, that what is printed is the recurrence's step.
-/
module

public import proofs.«01_k».proof.Proof.Gen.KernelIdeal.Skeleton

@[expose] public section

set_option maxRecDepth 16384

noncomputable section

namespace Cert.KernelIdeal.Cell

open Idealize.ShloMosaic Idealize.SL.Sem Cert.KernelIdeal Cert.KernelIdeal.Gen

variable {F : FTy → Type} [FloatOps F]

theorem rows_slices (s : Fin 16) : S1024x3072.Slices ![64 * s.val, 0] S64x3072 := by
  refine ⟨rfl, fun a => ?_⟩
  match a with
  | ⟨0, _⟩ => show 64 * s.val + 64 ≤ 1024; omega
  | ⟨1, _⟩ => show 0 + 3072 ≤ 3072; omega

/-- The rows of step `s` in a grid point's product with the input weights. -/
def rows (s : Fin 16) (g : FVec F S1024x3072 .f32) : FVec F S64x3072 .f32 :=
  extractStridedSlice S64x3072 ![64 * s.val, 0] g (rows_slices s)

/-- The hidden state twice, one copy under the other: the left factor of a step's product. -/
def twice (h : FVec F S64x1024 .f32) : FVec F S128x1024 .bf16 :=
  concatenate S128x1024 0 [⟨S64x1024, truncf .bf16 h bitsLt_bf16_f32⟩, ⟨S64x1024, truncf .bf16 h bitsLt_bf16_f32⟩]
    concatenates_S64x1024_S64x1024_S128x1024_d0

/-- The hidden state's product with its weights `w`, plus the bias `b`. -/
def hid (w : Vec F S1024x3072 .bf16) (b : FVec F S1x3072 .f32) (h : FVec F S64x1024 .f32) : FVec F S64x3072 .f32 :=
  addf
    (extractStridedSlice S64x3072 ![0, 0]
      (matmul dot_S128x1024_S1024x3072_S128x3072_1_0_0_1_n_n none (twice h)
        (shapeCast S1024x3072 w shapeCasts_S1024x3072_S1024x3072 : FVec F S1024x3072 .bf16)
        (constant S128x3072 .f32 0x00000000#32))
      slices_S128x3072_o0_0_S64x3072)
    (broadcastTo S64x3072 b broadcasts_S1x3072_S64x3072)

/-- The update gate, from the input's side `g` and the hidden state's side `q`. -/
def upd (g q : FVec F S64x3072 .f32) : FVec F S64x1024 .f32 :=
  logistic (addf (extractStridedSlice S64x1024 ![0, 1024] g slices_S64x3072_o0_1024_S64x1024)
    (extractStridedSlice S64x1024 ![0, 1024] q slices_S64x3072_o0_1024_S64x1024))

/-- What the candidate state is the hyperbolic tangent of: the reset gate scales the hidden state's side. -/
def cand (g q : FVec F S64x3072 .f32) : FVec F S64x1024 .f32 :=
  addf (extractStridedSlice S64x1024 ![0, 2048] g slices_S64x3072_o0_2048_S64x1024)
    (mulf
      (logistic (addf (extractStridedSlice S64x1024 ![0, 0] g slices_S64x3072_o0_0_S64x1024)
        (extractStridedSlice S64x1024 ![0, 0] q slices_S64x3072_o0_0_S64x1024)))
      (extractStridedSlice S64x1024 ![0, 2048] q slices_S64x3072_o0_2048_S64x1024))

/-- The end of a step: the candidate and the old state mixed by the gate, kept only in the rows whose length the step's
    number `16 a + t` has not reached. -/
def mix (a t : BitVec 32) (len : IVec S64x1 32) (h z p : FVec F S64x1024 .f32) : FVec F S64x1024 .f32 :=
  select
    (broadcastTo S64x1024
      (shapeCast S64x1 (cmpi .slt (broadcast S64x1 (Scalar.addi (Scalar.muli a 16#32) t)) len) shapeCasts_S64x1_S64x1)
      broadcasts_S64x1_S64x1024)
    (addf (mulf (subf (broadcast S64x1024 (Scalar.ofBits .f32 0x3F800000#32)) z) (tanh p)) (mulf z h)) h

/-- One step from the state `h`, the input's side `g` given. -/
def step (a t : BitVec 32) (len : IVec S64x1 32) (g : FVec F S64x3072 .f32) (w : Vec F S1024x3072 .bf16)
    (b : FVec F S1x3072 .f32) (h : FVec F S64x1024 .f32) : FVec F S64x1024 .f32 :=
  mix a t len h (upd g (hid w b h)) (cand g (hid w b h))

/-- The first `n` steps of a grid point from the state `h`. -/
def steps (a : BitVec 32) (len : IVec S64x1 32) (g : FVec F S1024x3072 .f32) (w : Vec F S1024x3072 .bf16)
    (b : FVec F S1x3072 .f32) (h : FVec F S64x1024 .f32) : ℕ → FVec F S64x1024 .f32
  | 0 => h
  | n + 1 => step a (BitVec.ofNat 32 n) len (rows (Fin.ofNat 16 n) g) w b (steps a len g w b h n)

/-! ## The printed parts are the steps

Odd-numbered parts of the text end inside a step, even-numbered ones begin inside one. -/

section Parts

variable (a : BitVec 32) (len : IVec S64x1 32) (gi : FVec F S1024x3072 .f32) (g : FVec F S64x3072 .f32)
  (w w' : Vec F S1024x3072 .bf16) (b : FVec F S1x3072 .f32) (h z p : FVec F S64x1024 .f32)
  (x : Vec F S16x64x1024 .f32) (wi : Vec F S1024x3072 .bf16) (bi bh : Vec F S1x3072 .f32)

/-- Step 0's update gate. -/
theorem pay10 : k0_pay10 x wi bi bh h w = upd (rows 0 (k0_pay5 x wi bi)) (hid w (k0_pay7 bh) h) := rfl
/-- Step 0's candidate, before the tangent. -/
theorem pay11 : k0_pay11 x wi bi bh h w = cand (rows 0 (k0_pay5 x wi bi)) (hid w (k0_pay7 bh) h) := rfl
/-- Step 15's end. -/
theorem pay1 : k0_pay1 a len h z p = mix a 15#32 len h z p := rfl

/-- Step 0 ends, then step 1. -/
theorem pay12 : k0_pay12 a gi len b h z p w = step a 1#32 len (rows 1 gi) w b (mix a 0#32 len h z p) := rfl
/-- Step 3 ends, then step 4. -/
theorem pay20 : k0_pay20 a gi len b h z p w = step a 4#32 len (rows 4 gi) w b (mix a 3#32 len h z p) := rfl
/-- Step 6 ends, then step 7. -/
theorem pay28 : k0_pay28 a gi len b h z p w = step a 7#32 len (rows 7 gi) w b (mix a 6#32 len h z p) := rfl
/-- Step 9 ends, then step 10. -/
theorem pay36 : k0_pay36 a gi len b h z p w = step a 10#32 len (rows 10 gi) w b (mix a 9#32 len h z p) := rfl
/-- Step 12 ends, then step 13. -/
theorem pay44 : k0_pay44 a gi len b h z p w = step a 13#32 len (rows 13 gi) w b (mix a 12#32 len h z p) := rfl
/-- The state after step 1, twice. -/
theorem pay14 : k0_pay14 a gi len b h z p w = twice (k0_pay12 a gi len b h z p w) := rfl
/-- The state after step 4, twice. -/
theorem pay22 : k0_pay22 a gi len b h z p w = twice (k0_pay20 a gi len b h z p w) := rfl
/-- The state after step 7, twice. -/
theorem pay30 : k0_pay30 a gi len b h z p w = twice (k0_pay28 a gi len b h z p w) := rfl
/-- The state after step 10, twice. -/
theorem pay38 : k0_pay38 a gi len b h z p w = twice (k0_pay36 a gi len b h z p w) := rfl
/-- The state after step 13, twice. -/
theorem pay46 : k0_pay46 a gi len b h z p w = twice (k0_pay44 a gi len b h z p w) := rfl
/-- The rows of step 2. -/
theorem pay13 : k0_pay13 gi = rows 2 gi := rfl
/-- The rows of step 5. -/
theorem pay21 : k0_pay21 gi = rows 5 gi := rfl
/-- The rows of step 8. -/
theorem pay29 : k0_pay29 gi = rows 8 gi := rfl
/-- The rows of step 11. -/
theorem pay37 : k0_pay37 gi = rows 11 gi := rfl
/-- The rows of step 14. -/
theorem pay45 : k0_pay45 gi = rows 14 gi := rfl
/-- Step 2. -/
theorem pay15 : k0_pay15 a len b h g (twice h) w = step a 2#32 len g w b h := rfl
/-- Step 5. -/
theorem pay23 : k0_pay23 a len b h g (twice h) w = step a 5#32 len g w b h := rfl
/-- Step 8. -/
theorem pay31 : k0_pay31 a len b h g (twice h) w = step a 8#32 len g w b h := rfl
/-- Step 11. -/
theorem pay39 : k0_pay39 a len b h g (twice h) w = step a 11#32 len g w b h := rfl
/-- Step 14. -/
theorem pay47 : k0_pay47 a len b h g (twice h) w = step a 14#32 len g w b h := rfl
/-- Step 3's update gate. -/
theorem pay18 : k0_pay18 a gi len b h g (twice h) w w' = upd (rows 3 gi) (hid w' b (k0_pay15 a len b h g (twice h) w)) := rfl
/-- Step 3's candidate, before the tangent. -/
theorem pay19 : k0_pay19 a gi len b h g (twice h) w w' = cand (rows 3 gi) (hid w' b (k0_pay15 a len b h g (twice h) w)) := rfl
/-- Step 6's update gate. -/
theorem pay26 : k0_pay26 a gi len b h g (twice h) w w' = upd (rows 6 gi) (hid w' b (k0_pay23 a len b h g (twice h) w)) := rfl
/-- Step 6's candidate, before the tangent. -/
theorem pay27 : k0_pay27 a gi len b h g (twice h) w w' = cand (rows 6 gi) (hid w' b (k0_pay23 a len b h g (twice h) w)) := rfl
/-- Step 9's update gate. -/
theorem pay34 : k0_pay34 a gi len b h g (twice h) w w' = upd (rows 9 gi) (hid w' b (k0_pay31 a len b h g (twice h) w)) := rfl
/-- Step 9's candidate, before the tangent. -/
theorem pay35 : k0_pay35 a gi len b h g (twice h) w w' = cand (rows 9 gi) (hid w' b (k0_pay31 a len b h g (twice h) w)) := rfl
/-- Step 12's update gate. -/
theorem pay42 : k0_pay42 a gi len b h g (twice h) w w' = upd (rows 12 gi) (hid w' b (k0_pay39 a len b h g (twice h) w)) := rfl
/-- Step 12's candidate, before the tangent. -/
theorem pay43 : k0_pay43 a gi len b h g (twice h) w w' = cand (rows 12 gi) (hid w' b (k0_pay39 a len b h g (twice h) w)) := rfl
/-- Step 15's update gate. -/
theorem pay50 : k0_pay50 a gi len b h g (twice h) w w' = upd (rows 15 gi) (hid w' b (k0_pay47 a len b h g (twice h) w)) := rfl
/-- Step 15's candidate, before the tangent. -/
theorem pay51 : k0_pay51 a gi len b h g (twice h) w w' = cand (rows 15 gi) (hid w' b (k0_pay47 a len b h g (twice h) w)) := rfl

end Parts

end Cert.KernelIdeal.Cell

end
-- ==== Proof.Block.lean ====
/-
  What one grid point leaves behind, as sixteen steps of the recurrence.

  The frame states what a grid point leaves in the scratch and in the output through the pieces its stores wrote. Every
  load and store covers its whole memref, so the pieces read back as the values stored: the theorems here give them
  for the first point, a middle point and the last one.
-/
module

public import proofs.«01_k».proof.Proof.Cell
public import proofs.«01_k».proof.Proof.Gen.KernelIdeal.Frame
public import Idealize.ShloMosaic.Lib.Pipeline.Value
public import Idealize.ShloMosaic.Lib.Tactic

@[expose] public section

set_option maxRecDepth 16384

noncomputable section

namespace Cert.KernelIdeal.Cell

open Idealize.ShloMosaic Idealize.SL.Sem Cert.KernelIdeal Cert.KernelIdeal.Gen

variable {F : FTy → Type} [FloatOps F]

theorem zeros2 : (![0, 0] : Fin 2 → Nat) = fun _ => 0 := funext fun a => by fin_cases a <;> rfl
theorem zeros3 : (![0, 0, 0] : Fin 3 → Nat) = fun _ => 0 := funext fun a => by fin_cases a <;> rfl

/-- Sixteen steps from the state `h`, at the grid point of number `a`, from the point's blocks: lengths, rows of the
    sequence, the two weights, the two biases. -/
def block (a : BitVec 32) (len : Vec F S64x1 .i32) (x : Vec F S16x64x1024 .f32) (wi wh : Vec F S1024x3072 .bf16)
    (bi bh : Vec F S1x3072 .f32) (h : FVec F S64x1024 .f32) : FVec F S64x1024 .f32 :=
  steps a len (k0_pay5 x wi bi) wh bh h 16

/-- The output from the last state: rows of length zero are zero. -/
def final (len : Vec F S64x1 .i32) (h : FVec F S64x1024 .f32) : FVec F S64x1024 .f32 :=
  select
    (broadcastTo S64x1024 (cmpi .sgt (len : IVec S64x1 32) (broadcast S64x1 0#32)) broadcasts_S64x1_S64x1024)
    h (broadcast S64x1024 (Scalar.ofBits .f32 0x00000000#32))

theorem len_self (x : Vec F S64x1 .i32) : k0_pay6 x = x := by unfold k0_pay6; dsimp only; rw [shapeCast_self]
theorem bias_self (x : Vec F S1x3072 .f32) : k0_pay7 x = x := by unfold k0_pay7; dsimp only; rw [shapeCast_self]

section

variable (c : Dev nD) (i : grid0.Coords)
  (arg1 : Memref sig .tc .vmem S64x1 .i32) (harg1 : arg1.IsWhole) (arg2 : Memref sig .tc .vmem S1x1024 .f32) (harg2 : arg2.IsWhole)
  (arg3 : Memref sig .tc .vmem S16x64x1024 .f32) (harg3 : arg3.IsWhole) (arg4 : Memref sig .tc .vmem S1024x3072 .bf16) (harg4 : arg4.IsWhole)
  (arg5 : Memref sig .tc .vmem S1024x3072 .bf16) (harg5 : arg5.IsWhole) (arg6 : Memref sig .tc .vmem S1x3072 .f32) (harg6 : arg6.IsWhole)
  (arg7 : Memref sig .tc .vmem S1x3072 .f32) (harg7 : arg7.IsWhole) (arg8 : Memref sig .tc .vmem S64x1024 .f32) (harg8 : arg8.IsWhole)
  (arg9 : Memref sig .tc .vmem S64x1024 .f32) (harg9 : arg9.IsWhole)
  (x0 : Vec F S64x1 .i32) (x1 : Vec F S1x1024 .f32) (x2 : Vec F S16x64x1024 .f32) (x3 x4 : Vec F S1024x3072 .bf16)
  (x5 x6 : Vec F S1x3072 .f32) (xs0 : Vec F S64x1024 .f32)

/-- A middle point takes the scratch sixteen steps further. -/
theorem scratch_B (hc0 : ¬cond0_0 i) (hc1 : ¬cond0_1 i) :
    sout0_B_0 c i arg1 harg1 arg2 harg2 arg3 harg3 arg4 harg4 arg5 harg5 arg6 harg6 arg7 harg7 arg8 harg8 arg9 harg9 hc0 hc1 x0 x1 x2 x3 x4 x5 x6 xs0
      = block (BitVec.ofNat 32 (i 0).val) x0 x2 x3 x4 x5 x6 xs0 := by
  unfold sout0_B_0
  rw [View.read_writes_eq_canon _ _ _ (scover0_B_0 c i arg1 harg1 arg2 harg2 arg3 harg3 arg4 harg4 arg5 harg5 arg6 harg6 arg7 harg7 arg8 harg8 arg9 harg9 hc0 hc1 x0 x1 x2 x3 x4 x5 x6 xs0)]
  unfold kernelRun0_B
  dsimp only
  sl_unfold_words
  rw [View.canon_unit_zero (S := S64x1024) zeros2]
  unfold k0_pay2
  dsimp only
  simp only [View.readAt_eq_ld, harg1.read_unread, harg3.read_unread, harg4.read_unread, harg5.read_unread, harg6.read_unread,
    harg7.read_unread, harg9.read_unread, View.ld_unit_zero (S := S64x1) zeros2, View.ld_unit_zero (S := S1024x3072) zeros2,
    View.ld_unit_zero (S := S1x3072) zeros2, View.ld_unit_zero (S := S64x1024) zeros2, View.ld_unit_zero (S := S16x64x1024) zeros3,
    shapeCast_self, len_self, bias_self, pay1, pay10, pay11, pay12, pay13, pay14, pay15, pay18, pay19, pay20, pay21, pay22, pay23, pay26, pay27,
    pay28, pay29, pay30, pay31, pay34, pay35, pay36, pay37, pay38, pay39, pay42, pay43, pay44, pay45, pay46, pay47, pay50, pay51]
  rfl

/-- The last point takes the scratch sixteen steps further too. -/
theorem scratch_C (hc0 : ¬cond0_0 i) (hc1 : cond0_1 i) :
    sout0_C_0 c i arg1 harg1 arg2 harg2 arg3 harg3 arg4 harg4 arg5 harg5 arg6 harg6 arg7 harg7 arg8 harg8 arg9 harg9 hc0 hc1 x0 x1 x2 x3 x4 x5 x6 xs0
      = block (BitVec.ofNat 32 (i 0).val) x0 x2 x3 x4 x5 x6 xs0 := by
  unfold sout0_C_0
  rw [View.read_writes_eq_canon _ _ _ (scover0_C_0 c i arg1 harg1 arg2 harg2 arg3 harg3 arg4 harg4 arg5 harg5 arg6 harg6 arg7 harg7 arg8 harg8 arg9 harg9 hc0 hc1 x0 x1 x2 x3 x4 x5 x6 xs0)]
  unfold kernelRun0_C
  dsimp only
  sl_unfold_words
  rw [View.canon_unit_zero (S := S64x1024) zeros2]
  unfold k0_pay2
  dsimp only
  simp only [View.readAt_eq_ld, harg1.read_unread, harg2.read_unread, harg3.read_unread, harg4.read_unread, harg5.read_unread,
    harg6.read_unread, harg7.read_unread, harg9.read_unread, View.ld_unit_zero (S := S64x1) zeros2,
    View.ld_unit_zero (S := S1x1024) zeros2, View.ld_unit_zero (S := S1024x3072) zeros2,
    View.ld_unit_zero (S := S1x3072) zeros2, View.ld_unit_zero (S := S64x1024) zeros2, View.ld_unit_zero (S := S16x64x1024) zeros3,
    shapeCast_self, len_self, bias_self, pay1, pay10, pay11, pay12, pay13, pay14, pay15, pay18, pay19, pay20, pay21, pay22, pay23,
    pay26, pay27, pay28, pay29, pay30, pay31, pay34, pay35, pay36, pay37, pay38, pay39, pay42, pay43, pay44, pay45, pay46, pay47,
    pay50, pay51]
  rfl

/-- The last point writes its last state to the output, rows of length zero made zero. -/
theorem output_C (hc0 : ¬cond0_0 i) (hc1 : cond0_1 i) :
    out0_C_7 c i arg1 harg1 arg2 harg2 arg3 harg3 arg4 harg4 arg5 harg5 arg6 harg6 arg7 harg7 arg8 harg8 arg9 harg9 hc0 hc1 x0 x1 x2 x3 x4 x5 x6 xs0
      = final x0 (block (BitVec.ofNat 32 (i 0).val) x0 x2 x3 x4 x5 x6 xs0) := by
  unfold out0_C_7
  rw [View.read_writes_eq_canon _ _ _ (cover0_C_7 c i arg1 harg1 arg2 harg2 arg3 harg3 arg4 harg4 arg5 harg5 arg6 harg6 arg7 harg7 arg8 harg8 arg9 harg9 hc0 hc1 x0 x1 x2 x3 x4 x5 x6 xs0)]
  unfold kernelRun0_C
  dsimp only
  sl_unfold_words
  rw [View.canon_unit_zero (S := S64x1024) zeros2]
  unfold k0_pay3
  dsimp only
  simp only [View.readAt_eq_ld, harg1.read_unread, harg2.read_unread, harg3.read_unread, harg4.read_unread, harg5.read_unread,
    harg6.read_unread, harg7.read_unread, harg9.read_unread, View.ld_unit_zero (S := S64x1) zeros2,
    View.ld_unit_zero (S := S1x1024) zeros2, View.ld_unit_zero (S := S1024x3072) zeros2,
    View.ld_unit_zero (S := S1x3072) zeros2, View.ld_unit_zero (S := S64x1024) zeros2, View.ld_unit_zero (S := S16x64x1024) zeros3,
    shapeCast_self, len_self, bias_self, pay1, pay10, pay11, pay12, pay13, pay14, pay15, pay18, pay19, pay20, pay21, pay22, pay23,
    pay26, pay27, pay28, pay29, pay30, pay31, pay34, pay35, pay36, pay37, pay38, pay39, pay42, pay43, pay44, pay45, pay46, pay47,
    pay50, pay51]
  rfl

/-- The first point starts the scratch at the given first state in every row, then takes sixteen steps. -/
theorem scratch_A (hc0 : cond0_0 i) (hc1 : ¬cond0_1 i) :
    sout0_A_0 c i arg1 harg1 arg2 harg2 arg3 harg3 arg4 harg4 arg5 harg5 arg6 harg6 arg7 harg7 arg8 harg8 arg9 harg9 hc0 hc1 x0 x1 x2 x3 x4 x5 x6
      = block (BitVec.ofNat 32 (i 0).val) x0 x2 x3 x4 x5 x6 (k0_pay4 x1) := by
  unfold sout0_A_0
  rw [View.read_writes_eq_canon _ _ _ (scover0_A_0 c i arg1 harg1 arg2 harg2 arg3 harg3 arg4 harg4 arg5 harg5 arg6 harg6 arg7 harg7 arg8 harg8 arg9 harg9 hc0 hc1 x0 x1 x2 x3 x4 x5 x6)]
  unfold kernelRun0_A
  dsimp only
  sl_unfold_words
  rw [View.canon_cons_unit_zero (S := S64x1024) zeros2]
  unfold k0_pay2
  dsimp only
  simp only [View.readCov_unit_zero (S := S64x1024) _ zeros2, View.readAt_eq_ld, harg1.read_unread, harg2.read_unread, harg3.read_unread, harg4.read_unread, harg5.read_unread,
    harg6.read_unread, harg7.read_unread, harg9.read_unread, View.ld_unit_zero (S := S64x1) zeros2,
    View.ld_unit_zero (S := S1x1024) zeros2, View.ld_unit_zero (S := S1024x3072) zeros2,
    View.ld_unit_zero (S := S1x3072) zeros2, View.ld_unit_zero (S := S64x1024) zeros2, View.ld_unit_zero (S := S16x64x1024) zeros3,
    shapeCast_self, len_self, bias_self, pay1, pay10, pay11, pay12, pay13, pay14, pay15, pay18, pay19, pay20, pay21, pay22, pay23,
    pay26, pay27, pay28, pay29, pay30, pay31, pay34, pay35, pay36, pay37, pay38, pay39, pay42, pay43, pay44, pay45, pay46, pay47,
    pay50, pay51]
  rfl

end

end Cert.KernelIdeal.Cell

end
-- ==== Proof.CellValue.lean ====
/-
  The kernel's step over the extended reals, read at an index: it is the recurrence's step.
-/
module

public import proofs.«01_k».proof.Proof.Spec
public import proofs.«01_k».proof.Proof.Block
public import Idealize.ShloMosaic.Lib.Pointwise

@[expose] public section

set_option maxRecDepth 16384

noncomputable section

namespace Cert.KernelIdeal.Cell

open Idealize.ShloMosaic Idealize.SL.Sem Cert.KernelIdeal Cert.KernelIdeal.Gen Cert.Gru
open Idealize.ShloMosaic.Pointwise

/-- The hidden state's side: the state's row times the weights (stored feature by place), plus the bias. -/
theorem hid_apply (w : Vec Ideal S1024x3072 .bf16) (b : FVec Ideal S1x3072 .f32) (h : FVec Ideal S64x1024 .f32)
    (r : Fin 64) (j : Fin 3072) :
    hid w b h (ix2 r j) = affine (fun j q => w (ix2 q j)) (fun j => b (ix2 0 j)) (fun q => h (ix2 r q)) j := by
  pointwise [hid, twice, affine]

/-- The input's side of step `s`: the row of the sequence's block times the weights, plus the bias. -/
theorem rows_apply (x : Vec Ideal S16x64x1024 .f32) (w : Vec Ideal S1024x3072 .bf16) (b : Vec Ideal S1x3072 .f32)
    (s : Fin 16) (r : Fin 64) (j : Fin 3072) :
    rows s (k0_pay5 x w b) (ix2 r j)
      = affine (fun j q => w (ix2 q j)) (fun j => b (ix2 0 j)) (fun q => x (ix3 s r q)) j := by
  unfold rows k0_pay5
  pointwise [affine]

/-- The end of a step. -/
theorem mix_apply (a t : BitVec 32) (len : IVec S64x1 32) (g q : FVec Ideal S64x3072 .f32) (h : FVec Ideal S64x1024 .f32)
    (r : Fin 64) (l : Fin 1024) :
    mix a t len h (upd g q) (cand g q) (ix2 r l)
      = Scalar.select (Scalar.cmpi .slt (Scalar.addi (Scalar.muli a 16#32) t) (len (ix2 r 0)))
          (mixture (fun j => g (ix2 r j)) (fun j => q (ix2 r j)) (h (ix2 r l)) l) (h (ix2 r l)) := by
  pointwise [mix, upd, cand, mixture, updateAt, candAt, resetAt]
  rfl

/-- The step's number as the kernel's words compute it. -/
theorem number (T n : ℕ) :
    Scalar.addi (Scalar.muli (BitVec.ofNat 32 T) 16#32) (BitVec.ofNat 32 n) = BitVec.ofNat 32 (16 * T + n) := by
  show BitVec.ofNat 32 T * 16#32 + BitVec.ofNat 32 n = _
  rw [BitVec.ofNat_add, Nat.mul_comm, BitVec.ofNat_mul]

section

variable (I : Inputs) (T : ℕ) (len : Vec Ideal S64x1 .i32) (x : Vec Ideal S16x64x1024 .f32)
  (wi wh : Vec Ideal S1024x3072 .bf16) (bi bh : Vec Ideal S1x3072 .f32) (h : FVec Ideal S64x1024 .f32)
  (hlen : ∀ r : Fin 64, len (ix2 r 0) = I.len r)
  (hx : ∀ (s : Fin 16) (r : Fin 64) (q : Fin 1024), x (ix3 s r q) = I.x (Fin.ofNat 512 (16 * T + s.val)) r q)
  (hwi : ∀ (q : Fin 1024) (j : Fin 3072), wi (ix2 q j) = I.wi j q)
  (hwh : ∀ (q : Fin 1024) (j : Fin 3072), wh (ix2 q j) = I.wh j q)
  (hbi : ∀ j : Fin 3072, bi (ix2 0 j) = I.bi j) (hbh : ∀ j : Fin 3072, bh (ix2 0 j) = I.bh j)
  (hh : ∀ (r : Fin 64) (l : Fin 1024), h (ix2 r l) = state I (16 * T) r l)

include hlen hx hwi hwh hbi hbh hh

/-- The first `n` steps at grid point `T`, from the state after `16 T` steps, give the state after `16 T + n`. -/
theorem steps_apply : ∀ n ≤ 16, ∀ (r : Fin 64) (l : Fin 1024),
    steps (BitVec.ofNat 32 T) len (k0_pay5 x wi bi) wh bh h n (ix2 r l) = state I (16 * T + n) r l
  | 0, _, r, l => hh r l
  | n + 1, hn, r, l => by
    have hs : (Fin.ofNat 16 n).val = n := Nat.mod_eq_of_lt (by omega)
    have ih := steps_apply n (by omega)
    unfold steps step
    rw [mix_apply, number]
    simp only [rows_apply, hid_apply, ih, hlen, hx, hwi, hwh, hbi, hbh, hs]
    rfl

/-- What grid point `T` leaves from the state after `16 T` steps: the state after `16 (T + 1)`. -/
theorem block_apply (r : Fin 64) (l : Fin 1024) :
    block (BitVec.ofNat 32 T) len x wi wh bi bh h (ix2 r l) = state I (16 * (T + 1)) r l :=
  steps_apply I T len x wi wh bi bh h hlen hx hwi hwh hbi hbh hh 16 le_rfl r l

end

/-- The output from the last state. -/
theorem final_apply (len : Vec Ideal S64x1 .i32) (h : FVec Ideal S64x1024 .f32) (r : Fin 64) (l : Fin 1024) :
    final len h (ix2 r l) = Scalar.select (Scalar.cmpi .sgt (len (ix2 r 0)) 0#32) (h (ix2 r l)) 0 := by
  pointwise [final]
  rfl

/-- The first state, the same in every row. -/
theorem first_apply (h0 : Vec Ideal S1x1024 .f32) (r : Fin 64) (l : Fin 1024) :
    k0_pay4 h0 (ix2 r l) = h0 (ix2 0 l) := by
  pointwise [k0_pay4]

end Cert.KernelIdeal.Cell

end
-- ==== Proof.KernelValue.lean ====
/-
  What the kernel computes: its 32 grid points of sixteen steps are the recurrence's 512 steps.

  A grid point's blocks are read off the launch's arguments; the state the points carry in the scratch is followed from
  point to point; the last point's output is the function's result.
-/
module

public import proofs.«01_k».proof.Proof.CellValue
public import proofs.«01_k».proof.Proof.Gen.KernelIdeal.Value
public import Idealize.ShloMosaic.Lib.Claim
public import Idealize.ShloMosaic.Lib.Pointwise
public import Idealize.ShloMosaic.Lib.Pipeline.ValueKit.Point

@[expose] public section

set_option maxRecDepth 16384

noncomputable section

namespace Cert.KernelIdeal.Cell

open Idealize.ShloMosaic Idealize.ShloMosaic.TcCoe Idealize.ShloMosaic.Tactic Idealize.SL.Sem
open Cert.KernelIdeal Cert.KernelIdeal.Gen Cert.KernelIdeal.Value Cert.Gru
open Idealize.ShloMosaic.Pointwise

variable (m : (ℓ : Loc nD τ sig) → Buf (Elt Ideal) ℓ)

/-- The arguments the launch has on device `c`, by their coordinates. -/
def inputs (c : Dev nD) : Inputs where
  x t r q := (m ((c.tc : Thread nD τ).loc main_arg0) : FVec Ideal S512x64x1024 .f32) (ix3 t r q)
  len r := (m ((c.tc : Thread nD τ).loc main_arg1) : IVec S64 32) (ix1 r)
  wi j q := (m ((c.tc : Thread nD τ).loc main_arg2) : FVec Ideal S3072x1024 .f32) (ix2 j q)
  wh j q := (m ((c.tc : Thread nD τ).loc main_arg3) : FVec Ideal S3072x1024 .f32) (ix2 j q)
  bi j := (m ((c.tc : Thread nD τ).loc main_arg4) : FVec Ideal S3072 .f32) (ix1 j)
  bh j := (m ((c.tc : Thread nD τ).loc main_arg5) : FVec Ideal S3072 .f32) (ix1 j)
  h0 l := (m ((c.tc : Thread nD τ).loc main_arg6) : FVec Ideal S1x1x1024 .f32) (ix3 0 0 l)

/-- Where each window's block lies: the sequence's moves with the grid point, the others stay. -/
theorem idx : ∀ t : Fin cfg0.N,
    win0_0.index t = ![0, 0] ∧ win0_1.index t = ![0, 0] ∧ win0_2.index t = ![t.val, 0, 0] ∧ win0_3.index t = ![0, 0]
      ∧ win0_4.index t = ![0, 0] ∧ win0_5.index t = ![0, 0] ∧ win0_6.index t = ![0, 0] := by decide +kernel

variable (c : Dev nD) (t : Fin cfg0.N)

/-- The lengths' block. -/
theorem len_read (r : Fin 64) : (iblk m c 0 t : Vec Ideal S64x1 .i32) (ix2 r 0) = (inputs m c).len r := by
  dsimp only [inputs]
  blk_simp [iblk, idx t]
  entry_read
  pointwise
  blk_ext [iblk, idx t]

/-- The first state's block. -/
theorem h0_read (l : Fin 1024) : (iblk m c 1 t : Vec Ideal S1x1024 .f32) (ix2 0 l) = (inputs m c).h0 l := by
  dsimp only [inputs]
  blk_simp [iblk, idx t]
  entry_read
  pointwise
  blk_ext [iblk, idx t]

/-- The sequence's block: sixteen times from the point's number on. -/
theorem x_read (s : Fin 16) (r : Fin 64) (q : Fin 1024) :
    (iblk m c 2 t : Vec Ideal S16x64x1024 .f32) (ix3 s r q) = (inputs m c).x (Fin.ofNat 512 (16 * t.val + s.val)) r q := by
  dsimp only [inputs]
  blk_ext [iblk, V, idx t]
  rw [Fin.val_ofNat, Nat.mod_eq_of_lt (by omega)]
  omega

/-- The input weight's block, the argument transposed. -/
theorem wi_read (q : Fin 1024) (j : Fin 3072) :
    (iblk m c 3 t : Vec Ideal S1024x3072 .bf16) (ix2 q j) = (inputs m c).wi j q := by
  dsimp only [inputs]
  blk_simp [iblk, idx t]
  entry_read
  pointwise
  blk_ext [iblk, idx t]

/-- The hidden weight's block, the argument transposed. -/
theorem wh_read (q : Fin 1024) (j : Fin 3072) :
    (iblk m c 4 t : Vec Ideal S1024x3072 .bf16) (ix2 q j) = (inputs m c).wh j q := by
  dsimp only [inputs]
  blk_simp [iblk, idx t]
  entry_read
  pointwise
  blk_ext [iblk, idx t]

/-- The input bias's block. -/
theorem bi_read (j : Fin 3072) : (iblk m c 5 t : Vec Ideal S1x3072 .f32) (ix2 0 j) = (inputs m c).bi j := by
  dsimp only [inputs]
  blk_simp [iblk, idx t]
  entry_read
  pointwise
  blk_ext [iblk, idx t]

/-- The hidden bias's block. -/
theorem bh_read (j : Fin 3072) : (iblk m c 6 t : Vec Ideal S1x3072 .f32) (ix2 0 j) = (inputs m c).bh j := by
  dsimp only [inputs]
  blk_simp [iblk, idx t]
  entry_read
  pointwise
  blk_ext [iblk, idx t]

/-- A grid point's coordinate is its number. -/
theorem coord : (grid0.coords t 0).val = t.val := by
  have e : (grid0.coords t 0).val = t.val / 1 % 32 := Pipeline.Grid.coords_val t 0 (by decide) rfl
  have hN := lt_of_lt_of_eq t.isLt (show cfg0.N = 32 from N_0)
  omega

/-- Sixteen steps at point `t` over its own blocks, from the state after `16 t` steps. -/
theorem point (h : FVec Ideal S64x1024 .f32)
    (hh : ∀ (r : Fin 64) (l : Fin 1024), h (ix2 r l) = state (inputs m c) (16 * t.val) r l) (r : Fin 64) (l : Fin 1024) :
    block (BitVec.ofNat 32 (grid0.coords t 0).val) (iblk m c 0 t) (iblk m c 2 t) (iblk m c 3 t) (iblk m c 4 t)
      (iblk m c 5 t) (iblk m c 6 t) h (ix2 r l) = state (inputs m c) (16 * (t.val + 1)) r l := by
  rw [coord]
  exact block_apply (inputs m c) t.val _ _ _ _ _ _ h (len_read m c t) (x_read m c t) (wi_read m c t) (wh_read m c t)
    (bi_read m c t) (bh_read m c t) hh r l

/-- After grid point `n` the scratch holds the state after `16 (n + 1)` steps. -/
theorem carried : ∀ (n : ℕ) (hn : n < cfg0.N) (r : Fin 64) (l : Fin 1024),
    (outsAt0 m c n hn).2 (ix2 r l) = state (inputs m c) (16 * (n + 1)) r l
  | 0, hn, r, l => by
    rw [outsAt0_A m c ⟨0, hn⟩ (Nat.zero_mod 32) (by show ¬0 % 32 = 31; decide)]
    dsimp only
    rw [scratch_A]
    exact point m c ⟨0, hn⟩ _ (fun r l => (first_apply _ r l).trans (h0_read m c ⟨0, hn⟩ l)) r l
  | n + 1, hn, r, l => by
    have hN := lt_of_lt_of_eq hn (show cfg0.N = 32 from N_0)
    have ih := carried n (by omega)
    have h0 : ¬(n + 1) % 32 = 0 := by omega
    by_cases h1 : (n + 1) % 32 = 31
    · rw [outsAt0_C m c ⟨n + 1, hn⟩ h0 h1]
      dsimp only
      rw [scratch_C]
      exact point m c ⟨n + 1, hn⟩ _ ih r l
    · rw [outsAt0_B m c ⟨n + 1, hn⟩ h0 h1]
      dsimp only
      rw [scratch_B]
      exact point m c ⟨n + 1, hn⟩ _ ih r l

/-- The kernel's result at a row and a lane. -/
theorem result (r : Fin 64) (l : Fin 1024) :
    (G7 m c : FVec Ideal S64x1024 .f32) (ix2 r l) = output (inputs m c) r l := by
  have hn : 31 < cfg0.N := lt_of_lt_of_eq (by decide) N_0.symm
  rw [G7_last, ← outsAt0_sweep m c 31 hn, outsAt0_C m c ⟨31, hn⟩ (by show ¬31 % 32 = 0; decide) (by show 31 % 32 = 31; decide)]
  dsimp only
  rw [output_C, final_apply, len_read, point m c ⟨31, hn⟩ _ (carried m c 30 (by omega))]
  rfl

end Cert.KernelIdeal.Cell

end
-- ==== Proof.RefStep.lean ====
/-
  One trip of the reference, read at an index: it is the recurrence's step.
-/
module

public import proofs.«01_k».proof.Proof.Spec
public import proofs.«01_k».proof.Proof.Gen.ReferenceIdeal
public import Idealize.ShloMosaic.Lib.Pointwise
public import Idealize.ShloMosaic.Lib.DynamicIndex

@[expose] public section

set_option maxRecDepth 16384

noncomputable section

namespace Cert.ReferenceIdeal.Gru

open Idealize.ShloMosaic Idealize.SL.Sem Cert.ReferenceIdeal Cert.ReferenceIdeal.Gen Cert.Gru
open Idealize.ShloMosaic.Pointwise

/-- The input's side at the time the counter `n` holds. -/
def inSide (x : FVec Ideal S512x64x1024 .f32) (n : IVec S_ 32) (w : FVec Ideal S3072x1024 .f32) (b : FVec Ideal S3072 .f32) :
    FVec Ideal S64x3072 .f32 :=
  addf
    (Host.dotGeneral dot_S64x1024_S1024x3072_S64x3072_1_0_0_1_n_n none
      (shapeCast S64x1024
        (Host.dynamicSlice S1x64x1024 x
          (fun k => ((![n, constantI S_ 32 0#32, constantI S_ 32 0#32] : Fin 3 → IVec S_ 32) k (Shape.Idx.first h_S_)).toInt)
          sliceFits_S512x64x1024_S1x64x1024)
        shapeCasts_S1x64x1024_S64x1024)
      (transpose S1024x3072 [1, 0] w transposes_S3072x1024_S1024x3072_1_0))
    (broadcastInDim S64x3072 ![0, 1] bcast_S1x3072_S64x3072_0_1 (broadcastInDim S1x3072 ![1] bcast_S3072_S1x3072_1 b))

/-- The hidden state's side. -/
def hidSide (h : FVec Ideal S64x1024 .f32) (w : FVec Ideal S3072x1024 .f32) (b : FVec Ideal S3072 .f32) :
    FVec Ideal S64x3072 .f32 :=
  addf
    (Host.dotGeneral dot_S64x1024_S1024x3072_S64x3072_1_0_0_1_n_n none h
      (transpose S1024x3072 [1, 0] w transposes_S3072x1024_S1024x3072_1_0))
    (broadcastInDim S64x3072 ![0, 1] bcast_S1x3072_S64x3072_0_1 (broadcastInDim S1x3072 ![1] bcast_S3072_S1x3072_1 b))

/-- A gate from the two sides' columns. -/
def gate (u v : FVec Ideal S64x1024 .f32) : FVec Ideal S64x1024 .f32 :=
  Host.divf (broadcastInDim S64x1024 ![] bcast_S_S64x1024 (constant S_ .f32 0x3F800000#32))
    (addf (broadcastInDim S64x1024 ![] bcast_S_S64x1024 (constant S_ .f32 0x3F800000#32)) (Host.exp (Host.negf (addf u v))))

/-- The rows that still run: the counter's time, read off the list of times, is below the row's length. -/
def live (t : IVec S512 32) (n : IVec S_ 32) (len : IVec S64 32) : IVec S64x1024 1 :=
  broadcastInDim S64x1024 ![0, 1] bcast_S64x1_S64x1024_0_1
    (broadcastInDim S64x1 ![0] bcast_S64_S64x1_0
      (cmpi .slt
        (broadcastInDim S64 ![] bcast_S_S64
          (shapeCast S_
            (Host.dynamicSlice S1 t (fun k => ((![n] : Fin 1 → IVec S_ 32) k (Shape.Idx.first h_S_)).toInt) sliceFits_S512_S1)
            shapeCasts_S1_S_))
        len))

/-- One trip on the state: the two sides `g` and `q`, the live rows `v`, the state `h`. -/
def trip (g q : FVec Ideal S64x3072 .f32) (v : IVec S64x1024 1) (h : FVec Ideal S64x1024 .f32) : FVec Ideal S64x1024 .f32 :=
  let z := gate (extractStridedSlice S64x1024 ![0, 1024] g slices_S64x3072_S64x1024_0_1024)
    (extractStridedSlice S64x1024 ![0, 1024] q slices_S64x3072_S64x1024_0_1024)
  select v
    (addf
      (mulf (subf (broadcastInDim S64x1024 ![] bcast_S_S64x1024 (constant S_ .f32 0x3F800000#32)) z)
        (Host.tanh
          (addf (extractStridedSlice S64x1024 ![0, 2048] g slices_S64x3072_S64x1024_0_2048)
            (mulf
              (gate (extractStridedSlice S64x1024 ![0, 0] g slices_S64x3072_S64x1024_0_0)
                (extractStridedSlice S64x1024 ![0, 0] q slices_S64x3072_S64x1024_0_0))
              (extractStridedSlice S64x1024 ![0, 2048] q slices_S64x3072_S64x1024_0_2048)))))
      (mulf z h))
    h

/-! ## Read at an index -/

/-- A time below 512 is itself as a signed word. -/
theorem time_toInt (k : ℕ) (hk : k < 512) : (BitVec.ofNat 32 k).toInt = (k : ℤ) := by
  have h : (BitVec.ofNat 32 k).toNat = k := by rw [BitVec.toNat_ofNat]; omega
  rw [BitVec.toInt_eq_toNat_of_lt (by rw [h]; omega), h]

theorem hidSide_apply (h : FVec Ideal S64x1024 .f32) (w : FVec Ideal S3072x1024 .f32) (b : FVec Ideal S3072 .f32)
    (r : Fin 64) (j : Fin 3072) :
    hidSide h w b (ix2 r j) = affine (fun j q => w (ix2 j q)) (fun j => b (ix1 j)) (fun q => h (ix2 r q)) j := by
  pointwise [hidSide, affine]

theorem time_slices3 (k : ℕ) (hk : k < 512) : S512x64x1024.Slices ![k, 0, 0] S1x64x1024 := by
  refine ⟨rfl, fun a => ?_⟩
  match a with
  | ⟨0, _⟩ => show k + 1 ≤ 512; omega
  | ⟨1, _⟩ => show 0 + 64 ≤ 64; omega
  | ⟨2, _⟩ => show 0 + 1024 ≤ 1024; omega

theorem time_slices1 (k : ℕ) (hk : k < 512) : S512.Slices ![k] S1 := by
  refine ⟨rfl, fun a => ?_⟩
  match a with
  | ⟨0, _⟩ => show k + 1 ≤ 512; omega

theorem inSide_apply (x : FVec Ideal S512x64x1024 .f32) (n : IVec S_ 32) (w : FVec Ideal S3072x1024 .f32)
    (b : FVec Ideal S3072 .f32) (k : ℕ) (hk : k < 512) (hn : n = fun _ => BitVec.ofNat 32 k)
    (r : Fin 64) (j : Fin 3072) :
    inSide x n w b (ix2 r j)
      = affine (fun j q => w (ix2 j q)) (fun j => b (ix1 j)) (fun q => x (ix3 (Fin.ofNat 512 k) r q)) j := by
  subst hn
  unfold inSide
  rw [Host.dynamicSlice_eq_extractStridedSlice S1x64x1024 x _ ![k, 0, 0] _ (time_slices3 k hk) (fun a => by
    match a with
    | ⟨0, _⟩ => exact time_toInt k hk
    | ⟨1, _⟩ => rfl
    | ⟨2, _⟩ => rfl)]
  pointwise [affine]
  refine congrArg (· + _) (Finset.sum_congr rfl fun q _ => congrArg (· * _) (congrArg x ?_))
  rw [show (⟨k, hk⟩ : Fin 512) = Fin.ofNat 512 k from Fin.ext (Nat.mod_eq_of_lt hk).symm]

theorem live_apply (n : IVec S_ 32) (len : IVec S64 32) (k : ℕ) (hk : k < 512) (hn : n = fun _ => BitVec.ofNat 32 k)
    (r : Fin 64) (l : Fin 1024) :
    live (iotaInDim S512 32 0) n len (ix2 r l) = Scalar.cmpi .slt (BitVec.ofNat 32 k) (len (ix1 r)) := by
  subst hn
  unfold live
  rw [Host.dynamicSlice_eq_extractStridedSlice S1 _ _ ![k] _ (time_slices1 k hk) (fun a => by
    match a with
    | ⟨0, _⟩ => exact time_toInt k hk)]
  pointwise
  rfl

theorem gate_apply (u v : FVec Ideal S64x1024 .f32) (r : Fin 64) (l : Fin 1024) :
    gate u v (ix2 r l) = Ideal.logistic (u (ix2 r l) + v (ix2 r l)) := by
  pointwise [gate]
  rfl

theorem trip_apply (g q : FVec Ideal S64x3072 .f32) (v : IVec S64x1024 1) (h : FVec Ideal S64x1024 .f32)
    (r : Fin 64) (l : Fin 1024) :
    trip g q v h (ix2 r l)
      = Scalar.select (v (ix2 r l)) (mixture (fun j => g (ix2 r j)) (fun j => q (ix2 r j)) (h (ix2 r l)) l) (h (ix2 r l)) := by
  unfold trip
  pointwise [gate_apply, mixture, updateAt, candAt, resetAt]

end Cert.ReferenceIdeal.Gru

end
-- ==== Proof.RefValue.lean ====
/-
  What the reference computes: its 512 trips are the recurrence's 512 steps.
-/
module

public import proofs.«01_k».proof.Proof.RefStep
public import proofs.«01_k».proof.Proof.Gen.ReferenceIdeal.Run

@[expose] public section

set_option maxRecDepth 16384

noncomputable section

namespace Cert.ReferenceIdeal.Gru

open Idealize.ShloMosaic Idealize.ShloMosaic.TcCoe Idealize.ShloMosaic.Tactic Idealize.SL.Sem
open Idealize.ShloMosaic.StableHlo
open Cert.ReferenceIdeal Cert.ReferenceIdeal.Gen Cert.ReferenceIdeal.Value Cert.Gru
open Idealize.ShloMosaic.Pointwise

variable (m : (ℓ : Loc nD τ sig) → Buf (Elt Ideal) ℓ)

/-- The arguments the launch has on device `c`, by their coordinates. -/
def inputs (c : Dev nD) : Inputs where
  x t r q := (m ((c.tc : Thread nD τ).loc main_arg0) : FVec Ideal S512x64x1024 .f32) (ix3 t r q)
  len r := (m ((c.tc : Thread nD τ).loc main_arg1) : IVec S64 32) (ix1 r)
  wi j q := (m ((c.tc : Thread nD τ).loc main_arg2) : FVec Ideal S3072x1024 .f32) (ix2 j q)
  wh j q := (m ((c.tc : Thread nD τ).loc main_arg3) : FVec Ideal S3072x1024 .f32) (ix2 j q)
  bi j := (m ((c.tc : Thread nD τ).loc main_arg4) : FVec Ideal S3072 .f32) (ix1 j)
  bh j := (m ((c.tc : Thread nD τ).loc main_arg5) : FVec Ideal S3072 .f32) (ix1 j)
  h0 l := (m ((c.tc : Thread nD τ).loc main_arg6) : FVec Ideal S1x1x1024 .f32) (ix3 0 0 l)

/-- The printed trip is `trip` of the two sides. -/
theorem step_eq (V : Valuation τ sig (Elt Ideal)) :
    step_main_v3_8 V
      = trip
          (inSide (V (Proc.devRef .tc main_v3_0)) (V (Proc.devRef .tc main_v3_7)) (V (Proc.devRef .tc main_v3_2))
            (V (Proc.devRef .tc main_v3_3)))
          (hidSide (V (Proc.devRef .tc main_v3_8)) (V (Proc.devRef .tc main_v3_4)) (V (Proc.devRef .tc main_v3_5)))
          (live (V (Proc.devRef .tc main_v3_1)) (V (Proc.devRef .tc main_v3_7)) (V (Proc.devRef .tc main_v3_6)))
          (V (Proc.devRef .tc main_v3_8)) := rfl

/-- What the loop's carried buffers hold before trip `k`. -/
structure Held (c : Dev nD) (k : ℕ) (V : Valuation τ sig (Elt Ideal)) : Prop where
  x : V (Proc.devRef .tc main_v3_0) = m ((c.tc : Thread nD τ).loc main_arg0)
  times : V (Proc.devRef .tc main_v3_1) = iotaInDim S512 32 0
  wi : V (Proc.devRef .tc main_v3_2) = m ((c.tc : Thread nD τ).loc main_arg2)
  bi : V (Proc.devRef .tc main_v3_3) = m ((c.tc : Thread nD τ).loc main_arg4)
  wh : V (Proc.devRef .tc main_v3_4) = m ((c.tc : Thread nD τ).loc main_arg3)
  bh : V (Proc.devRef .tc main_v3_5) = m ((c.tc : Thread nD τ).loc main_arg5)
  len : V (Proc.devRef .tc main_v3_6) = m ((c.tc : Thread nD τ).loc main_arg1)
  time : V (Proc.devRef .tc main_v3_7) = fun _ => BitVec.ofNat 32 k
  h : ∀ (r : Fin 64) (l : Fin 1024),
    (V (Proc.devRef .tc main_v3_8) : FVec Ideal S64x1024 .f32) (ix2 r l) = state (inputs m c) k r l

/-- Before the first trip: the arguments as launched, time zero, the first state in every row. -/
theorem held_zero (c : Dev nD) : Held m c 0 (entryContents preI m c) where
  x := by simp only [entryContents, afterL_cons, afterL_nil]; after_reads_simp; rfl
  times := by simp only [entryContents, afterL_cons, afterL_nil]; after_reads_simp; rfl
  wi := by simp only [entryContents, afterL_cons, afterL_nil]; after_reads_simp; rfl
  bi := by simp only [entryContents, afterL_cons, afterL_nil]; after_reads_simp; rfl
  wh := by simp only [entryContents, afterL_cons, afterL_nil]; after_reads_simp; rfl
  bh := by simp only [entryContents, afterL_cons, afterL_nil]; after_reads_simp; rfl
  len := by simp only [entryContents, afterL_cons, afterL_nil]; after_reads_simp; rfl
  time := ctr_entry m c
  h r l := by
    simp only [entryContents, afterL_cons, afterL_nil]; after_reads_simp
    show broadcastInDim S64x1024 ![0, 1] bcast_S1x1024_S64x1024_0_1
      (shapeCast S1x1024 (m ((c.tc : Thread nD τ).loc main_arg6) : FVec Ideal S1x1x1024 .f32) shapeCasts_S1x1x1024_S1x1024)
      (ix2 r l) = (m ((c.tc : Thread nD τ).loc main_arg6) : FVec Ideal S1x1x1024 .f32) (ix3 0 0 l)
    pointwise

/-- A trip takes what is held before trip `k` to what is held before trip `k + 1`. -/
theorem held_succ (c : Dev nD) (k : ℕ) (hk : k < 512) (V : Valuation τ sig (Elt Ideal)) (H : Held m c k V) :
    Held m c (k + 1) (STEP V) where
  x := (STEP_main_v3_0 V).trans H.x
  times := (STEP_main_v3_1 V).trans H.times
  wi := (STEP_main_v3_2 V).trans H.wi
  bi := (STEP_main_v3_3 V).trans H.bi
  wh := (STEP_main_v3_4 V).trans H.wh
  bh := (STEP_main_v3_5 V).trans H.bh
  len := (STEP_main_v3_6 V).trans H.len
  time := by
    rw [STEP_main_v3_7]
    unfold step_main_v3_7
    rw [H.time]
    funext y
    show BitVec.ofNat 32 k + 1#32 = BitVec.ofNat 32 (k + 1)
    rw [BitVec.ofNat_add]
  h r l := by
    rw [STEP_main_v3_8, step_eq, trip_apply]
    simp only [inSide_apply _ _ _ _ k hk H.time, hidSide_apply, H.times, live_apply _ _ k hk H.time, H.h, H.x, H.wi, H.bi, H.wh,
      H.bh, H.len]
    rfl

theorem held (c : Dev nD) : ∀ k, k ≤ 512 → Held m c k (STEP^[k] (entryContents preI m c))
  | 0, _ => held_zero m c
  | k + 1, h => by
    rw [Function.iterate_succ_apply']
    exact held_succ m c k h _ (held c k (Nat.le_of_succ_le h))

/-- The reference's result, at row `r` and unit `l`. -/
theorem result (c : Dev nD) (r : Fin 64) (l : Fin 1024) :
    (out_main_v7 (STEP^[512] (entryContents preI m c)) : FVec Ideal S64x1024 .f32) (ix2 r l)
      = output (inputs m c) r l := by
  have H := held m c 512 le_rfl
  unfold out_main_v7
  rw [iter_main_arg1]
  pointwise
  refine congrArg₂ (Scalar.select _) (H.h r l) ?_
  show Ideal.ofBits .f32 0x00000000#32 = 0
  rw [Ideal.ofBits_zero_f32]

end Cert.ReferenceIdeal.Gru

end
-- ==== Proof.lean ====
/-
  The claims put together. The kernel's result and the reference's are each the same recurrence's output at every row
  and lane (`Cert.KernelIdeal.Cell.result`, `Cert.ReferenceIdeal.Gru.result`), over arguments that agree.
-/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.KernelValue
public import proofs.«01_k».proof.Proof.RefValue
public import Idealize.ShloMosaic.Adequacy
public import Idealize.ShloMosaic.Init
public import Idealize.ShloMosaic.Lib.Quiescent

@[expose] public section

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  have hin : Cert.ReferenceIdeal.Gru.inputs m' c = Cert.KernelIdeal.Cell.inputs m c := by
    unfold Cert.ReferenceIdeal.Gru.inputs Cert.KernelIdeal.Cell.inputs
    obtain ⟨a0, a1, a2, a3, a4, a5, a6⟩ := hagree c
    rw [a0, a1, a2, a3, a4, a5, a6]
  refine funext fun i => ?_
  obtain ⟨r, l, rfl⟩ : ∃ (r : Fin 64) (l : Fin 1024), i = ix2 r l := ⟨i 0, i 1, by funext a; fin_cases a <;> rfl⟩
  exact (Cert.ReferenceIdeal.Gru.result m' c r l).trans (hin ▸ (Cert.KernelIdeal.Cell.result m c r l).symm)

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, quiescent_ReferenceIdeal, (trivial : preserves_Kernel_KernelIdeal), algebraic_KernelIdeal_ReferenceIdeal⟩

end Cert.Proof

end
